-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_neg_inf [hPre_no_neg_inf : Cert.Pre_no_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_no_neg_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_neg_inf [hPre_no_neg_inf : Cert.Pre_no_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_neg_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_neg_inf [hKernelIdeal : Cert.KernelIdeal.Facts] [hPre_no_neg_inf : Cert.Pre_no_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_neg_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_neg_inf [hReferenceIdeal : Cert.ReferenceIdeal.Facts] [hPre_no_neg_inf : Cert.Pre_no_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_neg_inf [hKernelIdeal : Cert.KernelIdeal.Facts] [hReferenceIdeal : Cert.ReferenceIdeal.Facts] [hPre_no_neg_inf : Cert.Pre_no_neg_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_neg_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_neg_inf : Cert.Pre_no_neg_inf.Facts),
    quiescent_Kernel (hKernel := hKernel)
    ∧ quiescent_KernelIdeal (hKernelIdeal := hKernelIdeal)
    ∧ quiescent_KernelIdeal_pre_no_neg_inf (hKernelIdeal := hKernelIdeal) (hPre_no_neg_inf := hPre_no_neg_inf)
    ∧ quiescent_ReferenceIdeal (hReferenceIdeal := hReferenceIdeal)
    ∧ quiescent_ReferenceIdeal_pre_no_neg_inf (hReferenceIdeal := hReferenceIdeal) (hPre_no_neg_inf := hPre_no_neg_inf)
    ∧ preserves_Kernel_KernelIdeal
    ∧ algebraic_KernelIdeal_ReferenceIdeal_pre_no_neg_inf (hKernelIdeal := hKernelIdeal) (hReferenceIdeal := hReferenceIdeal) (hPre_no_neg_inf := hPre_no_neg_inf)
-- ==== Pre_no_neg_inf.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) : IVec S8192x2048 1 :=
  let main_cst : FVec F S_ .f32 := constant S_ .f32 0xFF800000#32
  let main_v0 : FVec F S8192x2048 .f32 := broadcastInDim S8192x2048 ![] bcast_S_S8192x2048 main_cst
  let main_v1 : IVec S8192x2048 1 := cmpf .ogt main_arg0 main_v0
  main_v1
-- ==== Kernel.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S256x2048 : Shape := ⟨2, ![256, 2048]⟩
abbrev S256x1792 : Shape := ⟨2, ![256, 1792]⟩
abbrev S256x1536 : Shape := ⟨2, ![256, 1536]⟩
abbrev S256x1280 : Shape := ⟨2, ![256, 1280]⟩
abbrev S256x1024 : Shape := ⟨2, ![256, 1024]⟩
abbrev S256x768 : Shape := ⟨2, ![256, 768]⟩
abbrev S256x512 : Shape := ⟨2, ![256, 512]⟩
abbrev S256x256 : Shape := ⟨2, ![256, 256]⟩
abbrev S1024 : Shape := ⟨1, ![1024]⟩
abbrev S1024x1 : Shape := ⟨2, ![1024, 1]⟩
abbrev S1024x8 : Shape := ⟨2, ![1024, 8]⟩
abbrev S8x2048 : Shape := ⟨2, ![8, 2048]⟩
abbrev S1024x256 : Shape := ⟨2, ![1024, 256]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S1x2048, .f32⟩
  | .hbm, ⟨3, _⟩ => ⟨S2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .f32⟩
  | .local _ .vmem, ⟨3, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x2048 : Shape := ⟨2, ![8192, 2048]⟩
abbrev S_ : Shape := ⟨0, ![]⟩
abbrev S8192 : Shape := ⟨1, ![8192]⟩
abbrev S2048 : Shape := ⟨1, ![2048]⟩
abbrev S8192x1 : Shape := ⟨2, ![8192, 1]⟩
abbrev S2048x8192 : Shape := ⟨2, ![2048, 8192]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S2048, .f32⟩
  | .hbm, ⟨11, _⟩ => ⟨S8192x1, .f32⟩
  | .hbm, ⟨12, _⟩ => ⟨S8192x2048, .f32⟩
  | .hbm, ⟨13, _⟩ => ⟨S8192x2048, .f32⟩
  | .hbm, ⟨14, _⟩ => ⟨S2048x8192, .f32⟩
  | .hbm, ⟨15, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Block.lean ====
/- What one block of the kernel computes, entry by entry, at exact arithmetic.

   A grid point holds 1024 rows of X. From them it forms Y, each row times the square root of the row's weight, and adds
   the 256 × 256 tiles of the Gram matrix of Y into the result. Here the arithmetic of one tile (`accTile`), of one
   mirrored tile (`mirrorTile`), of Y (`scaled`) and of the column sums (`colStep`) is named once and read at an entry. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Gram

open Idealize.ShloMosaic Idealize.ShloMosaic.TcCoe Idealize.SL.Sem Cert.KernelIdeal Cert.KernelIdeal.Gen

/-- The weight's offset 1e-12, as the programs spell it. -/
def eps : EReal := Ideal.ofBits .f32 0x2B8CBCCC#32
/-- The weight's exponent -0.3, as the programs spell it. -/
def expo : EReal := Ideal.ofBits .f32 0xBE99999A#32
/-- The weight of a row whose entries sum to `n`. -/
def weight (n : EReal) : EReal := Ideal.pow (n + eps) expo

/-- The block's rows, each times the square root of its weight. -/
def scaled (x : Vec Ideal S1024x2048 .f32) : FVec Ideal S1024x2048 .bf16 := k0_pay39 x

/-- Entry (p, q) of the Gram matrix of the block's scaled rows. -/
def product (y : FVec Ideal S1024x2048 .bf16) (p q : Fin 2048) : EReal :=
  ∑ r : Fin 1024, (show EReal from y (ix2 r p)) * y (ix2 r q)

/-- One tile of the result after the block: what was there plus the product of the two column ranges at `p` and `q`. -/
def accTile (y : FVec Ideal S1024x2048 .bf16) (p q : ℕ) (hp : S1024x2048.Slices ![0, p] S1024x256)
    (hq : S1024x2048.Slices ![0, q] S1024x256) (v : Vec Ideal S256x256 .f32) : FVec Ideal S256x256 .f32 :=
  addf (shapeCast S256x256 v shapeCasts_S256x256_S256x256)
    (matmul dot_S1024x256_S1024x256_S256x256_0_0_1_1_n_n none (extractStridedSlice S1024x256 ![0, p] y hp)
      (extractStridedSlice S1024x256 ![0, q] y hq) (constant S256x256 .f32 0x00000000#32))

/-- One tile, mirrored. -/
def mirrorTile (v : Vec Ideal S256x256 .f32) : FVec Ideal S256x256 .f32 :=
  transpose S256x256 [1, 0] (shapeCast S256x256 v shapeCasts_S256x256_S256x256) transposes_S256x256_p1_0_S256x256

theorem scaled_apply (x : Vec Ideal S1024x2048 .f32) (r : Fin 1024) (p : Fin 2048) :
    scaled x (ix2 r p) = Ideal.sqrt (weight (∑ k : Fin 2048, (show EReal from x (ix2 r k)))) * x (ix2 r p) := by
  pointwise [scaled, k0_pay39, k0_pay38, weight, eps, expo]

theorem accTile_apply (y : FVec Ideal S1024x2048 .bf16) (p q : ℕ) (hp : S1024x2048.Slices ![0, p] S1024x256)
    (hq : S1024x2048.Slices ![0, q] S1024x256) (v : Vec Ideal S256x256 .f32) (a b : Fin 256) (P Q : Fin 2048)
    (hP : P.val = p + a.val) (hQ : Q.val = q + b.val) :
    accTile y p q hp hq v (ix2 a b) = (show EReal from v (ix2 a b)) + product y P Q := by
  obtain ⟨P, hP'⟩ := P
  obtain ⟨Q, hQ'⟩ := Q
  subst hP hQ
  pointwise [accTile, product]

theorem mirrorTile_apply (v : Vec Ideal S256x256 .f32) (a b : Fin 256) : mirrorTile v (ix2 a b) = v (ix2 b a) := by
  pointwise [mirrorTile]

theorem colStep_apply (x : Vec Ideal S1024x2048 .f32) (v : Vec Ideal S1x2048 .f32) (q : Fin 2048) :
    k0_pay40 (F := Ideal) x v (ix2 0 q) = (show EReal from v (ix2 0 q)) + ∑ r : Fin 1024, (show EReal from x (ix2 r q)) := by
  pointwise [k0_pay40, k0_pay38]

end Cert.KernelIdeal.Gram

end
-- ==== Proof.Stores.lean ====
/- What the result array holds after a list of tile stores.

   A grid point stores 256 × 256 tiles whose corners are multiples of 256. A tile is named by its number, eight times its
   row of tiles plus its column of tiles. `Done` says which tiles of a list of stores hold the values of a given matrix
   whatever the array held before; each lemma adds one store to the list. -/
module

public import proofs.«01_k».proof.Proof.Block
public import Idealize.ShloMosaic.Lib.WritesUnit
public import Idealize.ShloMosaic.Lib.Pipeline.ReadBack

@[expose] public section

set_option maxRecDepth 16384

noncomputable section

namespace Cert.KernelIdeal.Gram

open Idealize.ShloMosaic Idealize.ShloMosaic.TcCoe Idealize.SL.Sem Cert.KernelIdeal Cert.KernelIdeal.Gen

/-- The number of the tile that holds row `p` and column `q`. -/
def tile (p q : ℕ) : ℕ := 8 * (p / 256) + q / 256

/-- The tile numbers on and above the diagonal. -/
def upperTiles : List ℕ := (List.range 64).filter fun k => k / 8 ≤ k % 8

variable {sg : RefSig} {κ : Kind} {sp : Space} (v : View sg κ sp S2048x2048 .f32)

/-- A list of stores into the result array. -/
abbrev Stores := List (View.Piece (Elt Ideal) S2048x2048 .f32)

/-- After the stores `L` the tiles numbered in `D` hold `G`, whatever the array held before. -/
def Done (L : Stores) (D : List ℕ) (G : Fin 2048 → Fin 2048 → EReal) : Prop :=
  ∀ (f : v.ty.Contents (Elt Ideal)) (P Q : Fin 2048), tile P Q ∈ D →
    v.read (Elt Ideal) (v.writes (Elt Ideal) f L) (ix2 P Q) = G P Q

variable {v} {L : Stores} {D : List ℕ} {G : Fin 2048 → Fin 2048 → EReal}

theorem Done.nil : Done v [] [] G := fun _ _ _ h => absurd h List.not_mem_nil

/-- A tile store read inside the tile. -/
theorem read_inside (f : v.ty.Contents (Elt Ideal)) (p q : ℕ)
    (inb : ∀ a, (![p, q] : Fin 2 → ℕ) a + S256x256.size a ≤ S2048x2048.size a)
    (w : S256x256.Idx → Elt Ideal .f32) (P Q : Fin 2048) (a b : Fin 256) (hP : P.val = p + a.val) (hQ : Q.val = q + b.val) :
    v.read (Elt Ideal) (v.writes (Elt Ideal) f (⟨Rect.unit (s := S2048x2048) ![p, q] S256x256.size inb, w⟩ :: L)) (ix2 P Q)
      = w (ix2 a b) :=
  View.read_writes_cons_unit_of_mem v f inb w L (ix2 P Q) (ix2 a b) rfl (Fin.forall_fin_two.mpr ⟨hP, hQ⟩)

/-- A tile store read outside the tile. -/
theorem read_outside (f : v.ty.Contents (Elt Ideal)) (p q : ℕ) (hp : p % 256 = 0) (hq : q % 256 = 0)
    (inb : ∀ a, (![p, q] : Fin 2 → ℕ) a + S256x256.size a ≤ S2048x2048.size a)
    (w : S256x256.Idx → Elt Ideal .f32) (P Q : Fin 2048) (h : tile P Q ≠ tile p q) :
    v.read (Elt Ideal) (v.writes (Elt Ideal) f (⟨Rect.unit (s := S2048x2048) ![p, q] S256x256.size inb, w⟩ :: L)) (ix2 P Q)
      = v.read (Elt Ideal) (v.writes (Elt Ideal) f L) (ix2 P Q) := by
  by_cases h0 : P.val / 256 = p / 256
  · have h1 : Q.val / 256 ≠ q / 256 := fun h1 => h (by simp only [tile, h0, h1])
    exact View.read_writes_cons_miss_of_axis v f _ L _ 1 q 256 rfl rfl rfl (show Q.val < q ∨ q + 256 ≤ Q.val by omega)
  · exact View.read_writes_cons_miss_of_axis v f _ L _ 0 p 256 rfl rfl rfl (show P.val < p ∨ p + 256 ≤ P.val by omega)

/-- Two places with the same tile number lie in the same tile. -/
theorem tile_inj {p q P Q : ℕ} (hq : q < 2048) (hQ : Q < 2048) (h : tile P Q = tile p q) :
    P / 256 = p / 256 ∧ Q / 256 = q / 256 := by
  simp only [tile] at h; omega

/-- One more store, of the values of `G` on its tile. -/
theorem Done.store (hL : Done v L D G) (p q : ℕ)
    (inb : ∀ a, (![p, q] : Fin 2 → ℕ) a + S256x256.size a ≤ S2048x2048.size a)
    (w : S256x256.Idx → Elt Ideal .f32) (hp : p % 256 = 0) (hq : q % 256 = 0)
    (hw : ∀ (a b : Fin 256) (P Q : Fin 2048), P.val = p + a.val → Q.val = q + b.val → w (ix2 a b) = G P Q) :
    Done v (⟨Rect.unit (s := S2048x2048) ![p, q] S256x256.size inb, w⟩ :: L) (tile p q :: D) G := by
  intro f P Q h
  have hq' : q + 256 ≤ 2048 := inb 1
  by_cases e : tile P Q = tile p q
  · obtain ⟨h0, h1⟩ := tile_inj (by omega) Q.isLt e
    have hP : P.val = p + P.val % 256 := by omega
    have hQ : Q.val = q + Q.val % 256 := by omega
    rw [read_inside f p q inb w P Q ⟨P.val % 256, by omega⟩ ⟨Q.val % 256, by omega⟩ hP hQ]
    exact hw _ _ P Q hP hQ
  · rw [read_outside f p q hp hq inb w P Q e]
    exact hL f P Q ((List.mem_cons.1 h).resolve_left e)

/-- One more store, of the block's product added to the old values `B`. -/
theorem Done.acc {B : Fin 2048 → Fin 2048 → EReal} {y : FVec Ideal S1024x2048 .bf16} (hL : Done v L D G) (p q : ℕ)
    (hG : ∀ P Q : Fin 2048, P.val / 256 = p / 256 → Q.val / 256 = q / 256 → G P Q = B P Q + product y P Q)
    (inb : ∀ a, (![p, q] : Fin 2 → ℕ) a + S256x256.size a ≤ S2048x2048.size a)
    (w : S256x256.Idx → Elt Ideal .f32) (hs : S1024x2048.Slices ![0, p] S1024x256) (ht : S1024x2048.Slices ![0, q] S1024x256)
    (x : Vec Ideal S256x256 .f32) (hw : w = accTile y p q hs ht x) (hp : p % 256 = 0) (hq : q % 256 = 0)
    (hx : ∀ (a b : Fin 256) (P Q : Fin 2048), P.val = p + a.val → Q.val = q + b.val → x (ix2 a b) = B P Q) :
    Done v (⟨Rect.unit (s := S2048x2048) ![p, q] S256x256.size inb, w⟩ :: L) (tile p q :: D) G :=
  hL.store p q inb w hp hq fun a b P Q hP hQ => by
    rw [hw, accTile_apply y p q hs ht x a b P Q hP hQ, hx a b P Q hP hQ, hG P Q (by omega) (by omega)]

/-- A load of one tile, entry by entry. -/
theorem load_apply (f : v.ty.Contents (Elt Ideal)) (p q : ℕ)
    (inb : ∀ a, (![p, q] : Fin 2 → ℕ) a + S256x256.size a ≤ S2048x2048.size a) (a b : Fin 256) (P Q : Fin 2048)
    (hP : P.val = p + a.val) (hQ : Q.val = q + b.val) :
    v.readAt (Elt Ideal) (Rect.unit (s := S2048x2048) ![p, q] S256x256.size inb).toLoadRect f (ix2 a b)
      = v.read (Elt Ideal) f (ix2 P Q) := by
  rw [View.readAt_apply]
  refine congrArg _ (funext (Fin.forall_fin_two.mpr ⟨Fin.ext ?_, Fin.ext ?_⟩))
  · show p + 1 * a.val = P.val
    omega
  · show q + 1 * b.val = Q.val
    omega

/-- One more store below the diagonal, of the mirrored tile read back from the array. -/
theorem Done.mirror (hL : Done v L D G) (p q : ℕ) (hG : ∀ P Q : Fin 2048, P.val / 256 = p / 256 → Q.val / 256 = q / 256 → G P Q = G Q P)
    (inb : ∀ a, (![p, q] : Fin 2 → ℕ) a + S256x256.size a ≤ S2048x2048.size a)
    (inb' : ∀ a, (![q, p] : Fin 2 → ℕ) a + S256x256.size a ≤ S2048x2048.size a)
    (w : S256x256.Idx → Elt Ideal .f32)
    (hw : w = mirrorTile (v.readCov L (Rect.unit (s := S2048x2048) ![q, p] S256x256.size inb').toLoadRect))
    (hp : p % 256 = 0) (hq : q % 256 = 0) (hD : tile q p ∈ D) :
    Done v (⟨Rect.unit (s := S2048x2048) ![p, q] S256x256.size inb, w⟩ :: L) (tile p q :: D) G :=
  hL.store p q inb w hp hq fun a b P Q hP hQ => by
    rw [hw, mirrorTile_apply]
    refine (load_apply _ q p inb' b a Q P hQ hP).trans ?_
    rw [hL _ Q P (by
      have e : tile Q P = tile q p := by simp only [tile]; omega
      rwa [e])]
    exact (hG P Q (by omega) (by omega)).symm

/-- A tile's column range lies in the block. -/
theorem slices_of (p : ℕ) (h : p + 256 ≤ 2048) : S1024x2048.Slices ![0, p] S1024x256 :=
  ⟨rfl, Fin.forall_fin_two.mpr ⟨Nat.le_refl _, h⟩⟩

/-- The matrix whose upper tiles are `B` plus the block's product, the lower ones its mirror image. -/
def gram (B : Fin 2048 → Fin 2048 → EReal) (y : FVec Ideal S1024x2048 .bf16) (P Q : Fin 2048) : EReal :=
  if P.val / 256 ≤ Q.val / 256 then B P Q + product y P Q else B Q P + product y Q P

theorem gram_upper (B : Fin 2048 → Fin 2048 → EReal) (y : FVec Ideal S1024x2048 .bf16) {P Q : Fin 2048}
    (h : P.val / 256 ≤ Q.val / 256) : gram B y P Q = B P Q + product y P Q := if_pos h

theorem gram_mirror (B : Fin 2048 → Fin 2048 → EReal) (y : FVec Ideal S1024x2048 .bf16) {P Q : Fin 2048}
    (h : Q.val / 256 < P.val / 256) : gram B y P Q = gram B y Q P := by
  rw [gram_upper B y (le_of_lt h)]
  exact if_neg (not_le.mpr h)

/-- One more store, of the block's product added to what the array held before the grid point. -/
theorem Done.accOld {y : FVec Ideal S1024x2048 .bf16} {f0 : v.ty.Contents (Elt Ideal)} {p q : ℕ}
    {inb : ∀ a, (![p, q] : Fin 2 → ℕ) a + S256x256.size a ≤ S2048x2048.size a} {w : S256x256.Idx → Elt Ideal .f32}
    (hp : p % 256 = 0) (hq : q % 256 = 0) (hpq : p ≤ q)
    (hw : w = accTile y p q (slices_of p (inb 0)) (slices_of q (inb 1))
      (v.readAt (Elt Ideal) (Rect.unit (s := S2048x2048) ![p, q] S256x256.size inb).toLoadRect f0))
    (hL : Done v L D (gram (fun P Q => v.read (Elt Ideal) f0 (ix2 P Q)) y)) :
    Done v (⟨Rect.unit (s := S2048x2048) ![p, q] S256x256.size inb, w⟩ :: L) (tile p q :: D)
      (gram (fun P Q => v.read (Elt Ideal) f0 (ix2 P Q)) y) :=
  hL.acc (B := fun P Q => v.read (Elt Ideal) f0 (ix2 P Q)) p q
    (fun P Q h0 h1 => gram_upper _ y (by rw [h0, h1]; exact Nat.div_le_div_right hpq)) inb w _ _ _ hw hp hq
    fun a b P Q hP hQ => load_apply f0 p q inb a b P Q hP hQ

/-- One more mirrored store. -/
theorem Done.reflect {B : Fin 2048 → Fin 2048 → EReal} {y : FVec Ideal S1024x2048 .bf16} {p q : ℕ}
    {inb : ∀ a, (![p, q] : Fin 2 → ℕ) a + S256x256.size a ≤ S2048x2048.size a}
    {inb' : ∀ a, (![q, p] : Fin 2 → ℕ) a + S256x256.size a ≤ S2048x2048.size a} {w : S256x256.Idx → Elt Ideal .f32}
    (hp : p % 256 = 0) (hq : q % 256 = 0) (hpq : q < p)
    (hw : w = mirrorTile (v.readCov L (Rect.unit (s := S2048x2048) ![q, p] S256x256.size inb').toLoadRect))
    (hL : Done v L D (gram B y)) (hD : tile q p ∈ D) :
    Done v (⟨Rect.unit (s := S2048x2048) ![p, q] S256x256.size inb, w⟩ :: L) (tile p q :: D) (gram B y) :=
  hL.mirror p q (fun P Q h0 h1 => gram_mirror B y (by omega)) inb inb' w hw hp hq hD

/-! ## The first grid point, which clears the upper tiles before it adds to them -/

variable (v) in
/-- After the stores `L` the upper tiles not numbered in `D` hold zero, whatever the array held before. -/
def Clear (L : Stores) (D : List ℕ) : Prop :=
  ∀ (f : v.ty.Contents (Elt Ideal)) (P Q : Fin 2048), P.val / 256 ≤ Q.val / 256 → tile P Q ∉ D →
    v.read (Elt Ideal) (v.writes (Elt Ideal) f L) (ix2 P Q) = (0 : EReal)

variable (v) in
/-- After the stores `L` the upper tiles of the first `n` rows hold zero, whatever the array held before. -/
def ClearTo (L : Stores) (n : ℕ) : Prop :=
  ∀ (f : v.ty.Contents (Elt Ideal)) (P Q : Fin 2048), P.val / 256 ≤ Q.val / 256 → P.val < n →
    v.read (Elt Ideal) (v.writes (Elt Ideal) f L) (ix2 P Q) = (0 : EReal)

theorem ClearTo.nil : ClearTo v [] 0 := fun _ _ _ _ h => absurd h (Nat.not_lt_zero _)

/-- One more band cleared: the tiles of one row of tiles from the diagonal on. -/
theorem ClearTo.band {n m : ℕ} {size : Fin 2 → ℕ}
    {inb : ∀ a, (![n, n] : Fin 2 → ℕ) a + size a ≤ S2048x2048.size a}
    {w : (Rect.unit (s := S2048x2048) ![n, n] size inb).shape.Idx → Elt Ideal .f32}
    (hn : n % 256 = 0) (hm : n + 256 = m) (h0 : size 0 = 256) (h1 : size 1 = 2048 - n) (hw : ∀ x, w x = (0 : EReal)) (hL : ClearTo v L n) :
    ClearTo v (⟨Rect.unit (s := S2048x2048) ![n, n] size inb, w⟩ :: L) m := by
  intro f P Q h hP
  subst hm
  by_cases e : P.val < n
  · rw [View.read_writes_cons_miss_of_axis v f _ L _ 0 n 256 rfl rfl h0 (.inl e)]
    exact hL f P Q h e
  · have hQ := Q.isLt
    have hmem : ∀ a, (![n, n] : Fin 2 → ℕ) a ≤ (ix2 P Q a).val ∧ (ix2 P Q a).val < (![n, n] : Fin 2 → ℕ) a + size a :=
      Fin.forall_fin_two.mpr ⟨show n ≤ P.val ∧ P.val < n + size 0 by omega, show n ≤ Q.val ∧ Q.val < n + size 1 by omega⟩
    rw [View.read_writes_cons_unit_of_mem v f inb w L (ix2 P Q) (Rect.unitLocal (s := S2048x2048) (off := ![n, n]) (size := size) (ix2 P Q) hmem) rfl fun a => by
      rw [Rect.unitLocal_val]; have := (hmem a).1; omega]
    exact hw _

theorem ClearTo.clear (hL : ClearTo v L 2048) : Clear v L [] := fun f P Q h _ => hL f P Q h P.isLt

/-- Some upper tiles hold `G`, the other upper tiles zero. -/
def Begun (v : View sg κ sp S2048x2048 .f32) (L : Stores) (D : List ℕ) (y : FVec Ideal S1024x2048 .bf16) : Prop :=
  Done v L D (gram (fun _ _ => 0) y) ∧ Clear v L D

theorem Begun.start {y : FVec Ideal S1024x2048 .bf16} (hL : ClearTo v L 2048) : Begun v L [] y :=
  ⟨fun _ _ _ h => absurd h List.not_mem_nil, hL.clear⟩

/-- One more store, of the block's product added to a cleared tile. -/
theorem Begun.acc {y : FVec Ideal S1024x2048 .bf16} {p q : ℕ}
    {inb : ∀ a, (![p, q] : Fin 2 → ℕ) a + S256x256.size a ≤ S2048x2048.size a} {w : S256x256.Idx → Elt Ideal .f32}
    (hp : p % 256 = 0) (hq : q % 256 = 0) (hpq : p ≤ q)
    (hw : w = accTile y p q (slices_of p (inb 0)) (slices_of q (inb 1))
      (v.readCov L (Rect.unit (s := S2048x2048) ![p, q] S256x256.size inb).toLoadRect))
    (hL : Begun v L D y) (hD : tile p q ∉ D) :
    Begun v (⟨Rect.unit (s := S2048x2048) ![p, q] S256x256.size inb, w⟩ :: L) (tile p q :: D) y := by
  refine ⟨hL.1.acc (B := fun _ _ => 0) p q
    (fun P Q h0 h1 => gram_upper _ y (by rw [h0, h1]; exact Nat.div_le_div_right hpq)) inb w _ _ _ hw hp hq
    fun a b P Q hP hQ => (load_apply _ p q inb a b P Q hP hQ).trans ?_, fun f P Q h hn => ?_⟩
  · have e0 : P.val / 256 = p / 256 := by omega
    have e1 : Q.val / 256 = q / 256 := by omega
    refine hL.2 _ P Q (by rw [e0, e1]; exact Nat.div_le_div_right hpq) ?_
    simpa only [tile, e0, e1] using hD
  · rw [List.mem_cons, not_or] at hn
    rw [read_outside f p q hp hq inb w P Q hn.1]
    exact hL.2 f P Q h hn.2

end Cert.KernelIdeal.Gram

end
-- ==== Proof.Run.lean ====
/- What one grid point of the kernel leaves in its buffers.

   The three theorems run the body at the first point, at a middle point and at the last one. Before the run the input
   buffer holds the block `x0`, the result array `x1` and the column sums `x2`; afterwards the result array's upper tiles
   hold the block's product added to the old values (to zero at the first point), after the last point its lower tiles are
   the mirror image, and each column sum has the block's column added (to zero at the first point). -/
module

public import proofs.«01_k».proof.Proof.Stores
public import proofs.«01_k».proof.Proof.Gen.KernelIdeal.Frame
public import Idealize.ShloMosaic.Lib.VecWindow

@[expose] public section

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The body's first branch is taken. -/
abbrev isFirst (i : grid0.Coords) : Prop :=
  Scalar.cmpi .ne (Scalar.extui (Scalar.cmpi .eq (BitVec.ofNat 32 (i 0).val) 0#32)) 0#32 = 1#1

/-- The body's second branch is taken. -/
abbrev isLast (i : grid0.Coords) : Prop :=
  Scalar.cmpi .ne (Scalar.extui (Scalar.cmpi .eq (BitVec.ofNat 32 (i 0).val) 7#32)) 0#32 = 1#1

/-- A point is the first exactly when its number is 0. -/
theorem isFirst_iff : ∀ t : Fin grid0.N, isFirst (grid0.coords t) ↔ t.val = 0 := fun t => by
  have ht : t.val < 8 := Nat.lt_of_lt_of_eq t.isLt N_0
  have e0 : (grid0.coords t 0).val = t.val / 1 % 8 := Pipeline.Grid.coords_val t 0 (by decide) rfl
  simp only [isFirst, e0]
  word_cmp

/-- A point is the last exactly when its number is 7. -/
theorem isLast_iff : ∀ t : Fin grid0.N, isLast (grid0.coords t) ↔ t.val = 7 := fun t => by
  have ht : t.val < 8 := Nat.lt_of_lt_of_eq t.isLt N_0
  have e0 : (grid0.coords t 0).val = t.val / 1 % 8 := Pipeline.Grid.coords_val t 0 (by decide) rfl
  simp only [isLast, e0]
  word_cmp

/-- Every upper tile is one of the 36 the body adds to. -/
theorem tile_mem_upper {P Q : Fin 2048} (h : P.val / 256 ≤ Q.val / 256) : tile P Q ∈ upperTiles := by
  have hQ := Q.isLt
  simp only [upperTiles, tile, List.mem_filter, List.mem_range, decide_eq_true_eq]
  omega

variable (c : Dev nD) (i : grid0.Coords)
  (arg1 : Memref sig .tc .vmem S1024x2048 .f32) (harg1 : arg1.IsWhole) (arg2 : Memref sig .tc .vmem S2048x2048 .f32)
  (harg2 : arg2.IsWhole) (arg3 : Memref sig .tc .vmem S1x2048 .f32) (harg3 : arg3.IsWhole)
  (x0 : Vec Ideal S1024x2048 .f32) (x1 : Vec Ideal S2048x2048 .f32) (x2 : Vec Ideal S1x2048 .f32)

/-- The body at one point: from the three buffers' contents to the input's and two results of which `S` and `C` hold. -/
abbrev Runs (S : Vec Ideal S2048x2048 .f32 → Prop) (C : Vec Ideal S1x2048 .f32 → Prop) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2
        ∗ (iprop(owns (c : Thread nD τ) arg1 fullShare x0 ∗ (∃ d, ⌜S d⌝ ∗ owns (c : Thread nD τ) arg2 fullShare d)
            ∗ (∃ d, ⌜C d⌝ ∗ owns (c : Thread nD τ) arg3 fullShare d)) -∗ K ⟨⟩))
      ⊢ wp frame (wpE (defs₀ (F := Ideal)) Variants.none c none) E (cc0__fused_body i arg1 harg1 arg2 harg2 arg3 harg3) K

/-- The upper tiles hold `B` plus the block's product. -/
def UpperHolds (B : Fin 2048 → Fin 2048 → EReal) (x0 : Vec Ideal S1024x2048 .f32) (d : Vec Ideal S2048x2048 .f32) : Prop :=
  ∀ P Q : Fin 2048, P.val / 256 ≤ Q.val / 256 → d (ix2 P Q) = gram B (scaled x0) P Q

/-- Every tile holds `B` plus the block's product, or its mirror image. -/
def AllHolds (B : Fin 2048 → Fin 2048 → EReal) (x0 : Vec Ideal S1024x2048 .f32) (d : Vec Ideal S2048x2048 .f32) : Prop :=
  ∀ P Q : Fin 2048, d (ix2 P Q) = gram B (scaled x0) P Q

/-- The column sums hold `b` plus the block's column sums. -/
def ColumnsHold (b : Fin 2048 → EReal) (x0 : Vec Ideal S1024x2048 .f32) (d : Vec Ideal S1x2048 .f32) : Prop :=
  ∀ q : Fin 2048, d (ix2 0 q) = b q + ∑ r : Fin 1024, (show EReal from x0 (ix2 r q))

section Read

variable {v : View sig .tc .vmem S2048x2048 .f32} {f f0 : v.ty.Contents (Elt Ideal)} {L : Stores} {x0} {x1}

theorem tile_lt (P Q : Fin 2048) : tile P Q < 64 := by
  have hP := P.isLt
  have hQ := Q.isLt
  simp only [tile]
  omega

/-- The upper tiles from the list of a middle point's stores. -/
theorem upper_of_done (h1 : v.read (Elt Ideal) f0 = x1)
    {D : List ℕ} (hD : Done v L D (gram (fun P Q => v.read (Elt Ideal) f0 (ix2 P Q)) (scaled x0))) (hmem : ∀ k ∈ upperTiles, k ∈ D) :
    UpperHolds (fun P Q => x1 (ix2 P Q)) x0 (v.read (Elt Ideal) (v.writes (Elt Ideal) f L)) := by
  subst h1
  exact fun P Q h => hD _ P Q (hmem _ (tile_mem_upper h))

/-- All the tiles from the list of the last point's stores. -/
theorem all_of_done (h1 : v.read (Elt Ideal) f0 = x1)
    {D : List ℕ} (hD : Done v L D (gram (fun P Q => v.read (Elt Ideal) f0 (ix2 P Q)) (scaled x0))) (hmem : ∀ k ∈ List.range 64, k ∈ D) :
    AllHolds (fun P Q => x1 (ix2 P Q)) x0 (v.read (Elt Ideal) (v.writes (Elt Ideal) f L)) := by
  subst h1
  exact fun P Q => hD _ P Q (hmem _ (List.mem_range.mpr (tile_lt P Q)))

/-- The upper tiles from the list of the first point's stores. -/
theorem upper_of_begun {D : List ℕ} (hD : Begun v L D (scaled x0)) (hmem : ∀ k ∈ upperTiles, k ∈ D) :
    UpperHolds (fun _ _ => 0) x0 (v.read (Elt Ideal) (v.writes (Elt Ideal) f L)) := by
  exact fun P Q h => hD.1 _ P Q (hmem _ (tile_mem_upper h))

/-- The column sums from the point's last store into them. -/
theorem columns_of_store {v : View sig .tc .vmem S1x2048 .f32} {f : v.ty.Contents (Elt Ideal)}
    {L : List (View.Piece (Elt Ideal) S1x2048 .f32)} {y : Vec Ideal S1x2048 .f32} {b : Fin 2048 → EReal}
    (hy : ∀ q, y (ix2 0 q) = b q) :
    ColumnsHold b x0 (v.read (Elt Ideal) (v.writes (Elt Ideal) f
      (⟨Rect.unit (s := S1x2048) ![0, 0] S1x2048.size inb_S1x2048_S1x2048_0_0, k0_pay40 x0 y⟩ :: L))) := by
  intro q
  refine (View.read_writes_cons_unit_of_mem v f inb_S1x2048_S1x2048_0_0 (k0_pay40 x0 y) L (ix2 0 q) (ix2 0 q) rfl
    (Fin.forall_fin_two.mpr ⟨(Nat.zero_add _).symm, (Nat.zero_add _).symm⟩)).trans ?_
  rw [colStep_apply, hy]

/-- The column sums the first point has just cleared. -/
theorem zero_columns {v : View sig .tc .vmem S1x2048 .f32} {L : List (View.Piece (Elt Ideal) S1x2048 .f32)}
    {y : Vec Ideal S1x2048 .f32}
    (hy : y = v.readCov (⟨Rect.unit (s := S1x2048) ![0, 0] S1x2048.size inb_S1x2048_S1x2048_0_0, k0_pay29 (F := Ideal)⟩ :: L)
      (Rect.unit (s := S1x2048) ![0, 0] S1x2048.size inb_S1x2048_S1x2048_0_0).toLoadRect) (q : Fin 2048) :
    y (ix2 0 q) = (0 : EReal) := by
  rw [hy, View.readCov_cons_toLoadRect]
  exact Ideal.ofBits_zero_f32

end Read

set_option maxHeartbeats 2000000 in
/-- A middle point adds the block's product to the upper tiles and its column sums to the column sums. -/
theorem run_middle (hc0 : ¬isFirst i) (hc1 : ¬isLast i) :
    Runs c i arg1 harg1 arg2 harg2 arg3 harg3 x0 x1 x2 (UpperHolds (fun P Q => x1 (ix2 P Q)) x0) (ColumnsHold (fun q => x2 (ix2 0 q)) x0) := by
  intro E K
  simp only [cc0__fused_body_eq_skeleton]; unfold cc0__fused_body_skel
  simp only [k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, Hk⟩
  obtain rfl := harg1.eq_unread hf0
  obtain rfl := harg2.eq_unread hf1
  obtain rfl := harg3.eq_unread hf2
  have hx0 := (View.readAt_full arg1.view (harg1.unread x0) inb_S1024x2048_S1024x2048_0_0).trans (harg1.read_unread x0)
  have hx2 := (View.readAt_full arg3.view (harg3.unread x2) inb_S1x2048_S1x2048_0_0).trans (harg3.read_unread x2)
  sl_exec (disch := first | sl_exact hc0 | sl_exact hc1)
  sl_step
  iapply Hk
  isplitl [H0]
  · iexists _; isplitr; · ipureintro; exact harg1.read_unread _
    iexact H0
  isplitl [H1]
  · iexists _; isplitr; swap
    · iexists _; isplitr; swap; · iexact H1
      ipureintro; rfl
    ipureintro
    apply upper_of_done (harg2.read_unread x1)
    · iterate 36
        apply Done.accOld
        · rfl
        · rfl
        · decide
        · rfl
      exact Done.nil
    · decide
  · iexists _; isplitr; swap
    · iexists _; isplitr; swap; · iexact H2
      ipureintro; rfl
    ipureintro
    exact columns_of_store (fun q => rfl)

set_option maxHeartbeats 2000000 in
/-- The last point does what a middle one does and then mirrors the upper tiles below the diagonal. -/
theorem run_last (hc0 : ¬isFirst i) (hc1 : isLast i) :
    Runs c i arg1 harg1 arg2 harg2 arg3 harg3 x0 x1 x2 (AllHolds (fun P Q => x1 (ix2 P Q)) x0) (ColumnsHold (fun q => x2 (ix2 0 q)) x0) := by
  intro E K
  simp only [cc0__fused_body_eq_skeleton]; unfold cc0__fused_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, Hk⟩
  obtain rfl := harg1.eq_unread hf0
  obtain rfl := harg2.eq_unread hf1
  obtain rfl := harg3.eq_unread hf2
  have hx0 := (View.readAt_full arg1.view (harg1.unread x0) inb_S1024x2048_S1024x2048_0_0).trans (harg1.read_unread x0)
  have hx2 := (View.readAt_full arg3.view (harg3.unread x2) inb_S1x2048_S1x2048_0_0).trans (harg3.read_unread x2)
  sl_exec (disch := first | sl_exact hc0 | sl_exact hc1)
  sl_step
  iapply Hk
  isplitl [H0]
  · iexists _; isplitr; · ipureintro; exact harg1.read_unread _
    iexact H0
  isplitl [H1]
  · iexists _; isplitr; swap
    · iexists _; isplitr; swap; · iexact H1
      ipureintro; rfl
    ipureintro
    apply all_of_done (harg2.read_unread x1)
    · iterate 28
        apply Done.reflect
        · rfl
        · rfl
        · decide
        · rfl
      iterate 36
        apply Done.accOld
        · rfl
        · rfl
        · decide
        · rfl
      · exact Done.nil
      all_goals decide
    · decide
  · iexists _; isplitr; swap
    · iexists _; isplitr; swap; · iexact H2
      ipureintro; rfl
    ipureintro
    exact columns_of_store (fun q => rfl)

set_option maxHeartbeats 2000000 in
/-- The first point clears the upper tiles and the column sums before it adds. -/
theorem run_first (hc0 : isFirst i) (hc1 : ¬isLast i) :
    Runs c i arg1 harg1 arg2 harg2 arg3 harg3 x0 x1 x2 (UpperHolds (fun _ _ => 0) x0) (ColumnsHold (fun _ => 0) x0) := by
  intro E K
  simp only [cc0__fused_body_eq_skeleton]; unfold cc0__fused_body_skel
  simp only [k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, Hk⟩
  obtain rfl := harg1.eq_unread hf0
  obtain rfl := harg2.eq_unread hf1
  obtain rfl := harg3.eq_unread hf2
  have hx0 := (View.readAt_full arg1.view (harg1.unread x0) inb_S1024x2048_S1024x2048_0_0).trans (harg1.read_unread x0)
  have hx2 := (View.readAt_full arg3.view (harg3.unread x2) inb_S1x2048_S1x2048_0_0).trans (harg3.read_unread x2)
  sl_exec (disch := first | sl_exact hc0 | sl_exact hc1)
  sl_step
  iapply Hk
  isplitl [H0]
  · iexists _; isplitr; · ipureintro; exact harg1.read_unread _
    iexact H0
  isplitl [H1]
  · iexists _; isplitr; swap
    · iexists _; isplitr; swap; · iexact H1
      ipureintro; rfl
    ipureintro
    apply upper_of_begun
    · iterate 36
        apply Begun.acc
        · rfl
        · rfl
        · decide
        · rfl
      · apply Begun.start
        iterate 8
          apply ClearTo.band
          · rfl
          · rfl
          · rfl
          · rfl
          · exact fun _ => Ideal.ofBits_zero_f32
        exact ClearTo.nil
      all_goals decide
    · decide
  · iexists _; isplitr; swap
    · iexists _; isplitr; swap; · iexact H2
      ipureintro; rfl
    ipureintro
    exact columns_of_store (zero_columns rfl)

end Cert.KernelIdeal.Gram

end
-- ==== Proof.Launch.lean ====
/- The run of the whole program from what its body does at each grid point.

   The kernel's one region is followed by a host reshape of the column sums. The body's effect is given by relational proof
   data: what may be left in each buffer at a point. From them this module concludes that the program runs, that every
   array of the region ends at contents the data allow, that the reshaped result is the reshape of the column sums so
   allowed, and that all semaphores end at zero. -/
module

public import proofs.«01_k».proof.Proof.Gen.KernelIdeal.Frame
public import Idealize.ShloMosaic.PureOps.Ideal
public import Idealize.ShloMosaic.Lib.Pipeline.Quiescent
public import Idealize.ShloMosaic.Lib.Pipeline.FrameSuffix

@[expose] public section

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Contents of the region's arrays on one core. -/
abbrev Arrays (c : Dev nD) : Type := (w : Fin cfg0.W) → Buf (Elt Ideal) ((cfg0.win w).arr.view.loc (c.tc : Thread nD τ))

/-- Relational proof data of the region. -/
abbrev Data (c : Dev nD) : Type := RDat τ (Elt Ideal) Unit ℕ (UR sig nD τ) ℕ cfg0 c

/-- A buffer's contents after the host lines, from the array contents the region ends with. -/
abbrev atEnd (c : Dev nD) (A : Arrays c) (b : Ref sig .tc) : Buf (Elt Ideal) ((c.tc : Thread nD τ).loc b) :=
  StableHlo.after (List.flatten [hostOps1]) (withArrays spec0 c (V0 m c) A) (Proc.devRef .tc b)

/-- The arrays as the region leaves them are arrays at some allowed contents. -/
theorem arrays_open {c : Dev nD} (d : Data c) :
    (d.arraysAt cfg0.N : sProp 𝕄) ⊢ iprop(∃ A : Arrays c, ⌜∀ w, d.ArrAt w cfg0.N (A w)⌝ ∗ d.arrays A) := by
  unfold RDat.arraysAt RDat.arrays
  iintro H
  ihave H := (BI.bigSep_exists_pi Finset.univ (fun w F => iprop(⌜d.ArrAt w cfg0.N F⌝
      ∗ (cfg0.win w).arr.view.loc (c.tc : Thread nD τ) ↦[(cfg0.win w).arr.view.set]{d.share w} F))) $$ H
  icases H with ⟨%A, H⟩
  ihave H := (BI.bigSep_pure_sep Finset.univ (fun w => d.ArrAt w cfg0.N (A w))
      (fun w => (cfg0.win w).arr.view.loc (c.tc : Thread nD τ) ↦[(cfg0.win w).arr.view.set]{d.share w} A w)) $$ H
  icases H with ⟨%h, H⟩
  iexists A
  isplitr
  · ipureintro; exact fun w => h w (Finset.mem_univ w)
  · iexact H

/-- Arrays at allowed contents are what the region leaves. -/
theorem arrays_close {c : Dev nD} (d : Data c) (A : Arrays c) (h : ∀ w, d.ArrAt w cfg0.N (A w)) :
    (d.arrays A : sProp 𝕄) ⊢ d.arraysAt cfg0.N := by
  unfold RDat.arraysAt RDat.arrays
  refine BI.bigSep_mono fun w _ => ?_
  show ((cfg0.win w).arr.view.loc (c.tc : Thread nD τ) ↦[(cfg0.win w).arr.view.set]{d.share w} A w : sProp 𝕄)
    ⊢ iprop(∃ F, ⌜d.ArrAt w cfg0.N F⌝ ∗ (cfg0.win w).arr.view.loc (c.tc : Thread nD τ) ↦[(cfg0.win w).arr.view.set]{d.share w} F)
  iintro H
  iexists (A w)
  isplitr
  · ipureintro; exact h w
  · iexact H

/-- What is true of the final memory on one core. -/
def EndsAt {c : Dev nD} (d : Data c) (s : MemSt nD τ sig (Elt Ideal)) : Prop :=
  (∀ w, d.ArrAt w cfg0.N (s.mem ((cfg0.win w).arr.view.loc (c.tc : Thread nD τ))))
    ∧ ∃ A : Arrays c, (∀ w, d.ArrAt w cfg0.N (A w)) ∧ s.mem ((c.tc : Thread nD τ).loc main_v1) = atEnd m c A main_v1

/-- The plain configurations with no prefetched tables. -/
abbrev pcs : Fin 1 → PCfg sig Λ₀ (Elt Ideal) := fun p => (cfgs p).toPCfg (Val := Elt Ideal)
abbrev adm : (p : Fin 1) → (pcs p).Adm := fun p => (cfgs p).toPCfg_adm

set_option backward.isDefEq.respectTransparency.types false in
set_option maxHeartbeats 1600000 in
/-- The program runs, ending with every semaphore at zero and memory as the data allow. -/
theorem launch (d : (c : Dev nD) → Data c) (hbody : ∀ c, (d c).BodyObligation (defs₀ (F := Ideal)) Variants.none () Set.univ)
    (hshare : ∀ c w, (d c).share w = fullShare) (howed : ∀ c t, (d c).owed t = 0)
    (hA : ∀ c w, (d c).A w = V m c (arrRef spec0 w)) (hΦ : ∀ c t, (d c).Φ t = ΦA spec0 c) :
    θ_run defs (onTc (τ := τ) (main (F := Ideal))) (s₀ m ρ) (fun r => (∀ c, EndsAt m (d c) r.2) ∧ r.2.sem = fun _ => 0) := by
  classical
  have hq : ∀ c w, (spec0 w).isOut = false → (d c).q w = shareOf spec0 w :=
    fun c w hw => (d c).q_eq_shareOf_of_share_full launch0.win.arr_inj (hshare c) w hw
  have kit := (launch0.toP (Val := Elt Ideal)).to₀
  exact RDat.θ_run_region_pf_tail_quiescent pcs adm (RDat.familyOf pcs adm 0 d) () (kit.cellOf_inj adm) 0 kit.win
    (OwnSemFacts.none (cfgs 0).spec) kit.pre emb₁ defs₀ Variants.none m ρ main
    (fun _ => chain ([hostOps1].map StableHlo.seq)) (fun c => by rw [RDat.familyOf_self]; exact hbody c)
    kit.block_pos kit.arr_whole kit.stage_whole (fun c t => by rw [RDat.familyOf_self]; exact howed c t)
    (G := fun _ => iprop(emp)) (u₀ := initOf (cells (pin pcs adm) (kit.cellOf_inj adm)) (launchToks (pin pcs adm) (kit.cellOf_inj adm)))
    (hu₀ := by
      iintro Hu; imodintro
      isplitl [Hu]
      · iapply (show (ownU _ : sProp 𝕄) ⊢ BI.own (emb₁ (initOf (cells (pin pcs adm) (kit.cellOf_inj adm))
          (launchToks (pin pcs adm) (kit.cellOf_inj adm)))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none)
    (hsplit := fun c => by
      rw [RDat.familyOf_self]
      exact (d c).arrays_split_shared kit.sharedIn kit.arr_whole (hq c) (V m c) _ (hA c))
    (hpf := fun _ k => k.elim0)
    (X := fun c => iprop(∃ r, prngReg c r)) (Y := fun c => iprop(∃ r, prngReg c r))
    (Z := fun c => unscopedRestP Prefetch.none spec0 c (V m c))
    (Z' := fun c => iprop(∃ A : Arrays c, ⌜∀ w, (d c).ArrAt w cfg0.N (A w)⌝ ∗ unscopedRestP Prefetch.none spec0 c (atEnd m c A)))
    (hX := fun c => by
      iintro ⟨HU, -, -, Hp, -⟩; imodintro
      isplitl [Hp]; · iexists _; iexact Hp
      iexact HU)
    (hin := fun c => by
      rw [RDat.familyOf_self, hΦ]; unfold ΦA
      iintro ⟨Hp, -, Hr⟩
      isplitl [Hr] <;> iassumption)
    (hout := fun c => by
      rw [RDat.familyOf_self, hΦ, ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha := (arrays_open (d c)) $$ Ha
      icases Ha with ⟨%A, %hA', Ha⟩
      have hB : (d c).arrays A = arrBufs spec0 c (fun b => withArrays spec0 c (V0 m c) A (Proc.devRef .tc b)) :=
        ((d c).arrBufs_eq_arrays kit.sharedIn kit.arr_whole (hq c) _ A fun w =>
          (withArrays_arr spec0 launch0.win.arr_inj c (V0 m c) A w).symm).symm
      iapply (tail_seqs_bufs_b pcs defs₀ Variants.none Prefetch.none spec0 c (V0 m c) A [hostOps1] sfx_sub sfx_fresh sfx_keeps Q')
      isplitl [Hk]
      · iintro ⟨Hb, Ha, Hu⟩
        iapply Hk
        isplitl [Hb]; · iexact Hb
        isplitl [Ha]
        · iapply (arrays_close (d c) A hA'); iapply (Entails.of_eq hB.symm); iexact Ha
        iexists A
        isplitr
        · ipureintro; exact hA'
        · iexact Hu
      · isplitl [Hb]; · iexact Hb
        isplitl [Ha]; · iapply (Entails.of_eq hB); iexact Ha
        iexact HZ)
    (QY := fun c s => ∃ A : Arrays c, (∀ w, (d c).ArrAt w cfg0.N (A w)) ∧ s.mem ((c.tc : Thread nD τ).loc main_v1) = atEnd m c A main_v1)
    (hY := fun c s' => by
      iintro ⟨-, HZ, HSI⟩
      icases HZ with ⟨%A, %h, HZ⟩
      unfold unscopedRestP
      ihave HZ := (pointsTo_read_all (restRefsP sig Prefetch.none spec0) (fun b => (c.tc : Thread nD τ).loc b) (atEnd m c A) s') $$ [HZ HSI]
      · isplitl [HZ] <;> iassumption
      icases HZ with ⟨%hZ, HSI⟩
      imodintro
      isplitr
      · ipureintro; exact ⟨A, h, hZ main_v1 (by decide)⟩
      · iexact HSI)
    (hQ := fun s h hz => ⟨fun c => ⟨fun w => by simpa only [RDat.familyOf_self] using (h c).1 w, (h c).2.2⟩, hz⟩)

end Cert.KernelIdeal.Gram

end
-- ==== Proof.Data.lean ====
/- What every buffer holds at each grid point, and that the body keeps to it.

   The data say of a point: the block of the argument stays as fetched; the result array's upper tiles get the block's
   product added (to zero at the first point), all its tiles hold the finished sums or their mirror image after the last
   point; the column sums get the block's column sums added. Of the lower tiles nothing is said before the last point:
   until then they hold whatever the buffer held before. -/
module

public import proofs.«01_k».proof.Proof.Run
public import proofs.«01_k».proof.Proof.Launch

@[expose] public section

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The argument's block at a point. -/
abbrev blockAt (c : Dev nD) (t : Fin cfg0.N) : Vec Ideal S1024x2048 .f32 := iblk m c 0 t

/-- What a point may leave of the result array, found at `Y`. -/
def GramStep (t : Fin cfg0.N) (x : Vec Ideal S1024x2048 .f32) (Y X : Vec Ideal S2048x2048 .f32) : Prop :=
  UpperHolds (fun P Q => if t.val = 0 then 0 else Y (ix2 P Q)) x X
    ∧ (t.val = 7 → AllHolds (fun P Q => Y (ix2 P Q)) x X)

/-- What a point may leave of the column sums, found at `Y`. -/
def ColumnStep (t : Fin cfg0.N) (x : Vec Ideal S1024x2048 .f32) (Y X : Vec Ideal S1x2048 .f32) : Prop :=
  ColumnsHold (fun q => if t.val = 0 then 0 else Y (ix2 0 q)) x X

/-- The relational proof data of the region. -/
def data (c : Dev nD) : Data c where
  A w := V m c (arrRef spec0 w)
  after w t := match w with
    | 0 => fun Y X => X = Y
    | 1 => GramStep t (blockAt m c t)
    | 2 => ColumnStep t (blockAt m c t)
    | ⟨_ + 3, h⟩ => absurd h (Nat.not_lt.2 (Nat.le_add_left _ _))
  Φ _ := ΦA spec0 c
  q _ := fullShare
  owed _ := 0

/-- The body finds the argument's block of the point. -/
theorem finds_block {c : Dev nD} {t : Fin cfg0.N} {Y : Vec Ideal S1024x2048 .f32} (h : (data m c).Finds 0 t Y) : Y = blockAt m c t := by
  obtain ⟨d, rfl⟩ := ((data m c).finds_of_fetch (fetch0_0 t) Y).mp h
  rfl

/-- The body table's row is the body at the point's buffers. -/
theorem body_row (t : Fin cfg0.N) : defs₀ (F := Ideal) .tc cfg0.body (cfg0.bodyArgs t (cfg0.slots t)) = bodyAt0 t := by
  unfold defs₀
  rw [Defs.onTc_tc]

/-- A run whose results satisfy `S` and `C` is one whose results satisfy what these imply. -/
theorem Runs.weaken {c : Dev nD} {i : grid0.Coords}
    {arg1 : Memref sig .tc .vmem S1024x2048 .f32} {harg1 : arg1.IsWhole} {arg2 : Memref sig .tc .vmem S2048x2048 .f32}
    {harg2 : arg2.IsWhole} {arg3 : Memref sig .tc .vmem S1x2048 .f32} {harg3 : arg3.IsWhole}
    {x0 : Vec Ideal S1024x2048 .f32} {x1 : Vec Ideal S2048x2048 .f32} {x2 : Vec Ideal S1x2048 .f32}
    {S S' : Vec Ideal S2048x2048 .f32 → Prop} {C C' : Vec Ideal S1x2048 .f32 → Prop} (hS : ∀ d, S d → S' d) (hC : ∀ d, C d → C' d)
    (h : Runs c i arg1 harg1 arg2 harg2 arg3 harg3 x0 x1 x2 S C) : Runs c i arg1 harg1 arg2 harg2 arg3 harg3 x0 x1 x2 S' C' := by
  intro E K
  refine BIBase.Entails.trans ?_ (h E K)
  iintro ⟨H0, H1, H2, HK⟩
  isplitl [H0]; · iexact H0
  isplitl [H1]; · iexact H1
  isplitl [H2]; · iexact H2
  iintro ⟨H0, ⟨%d1, %h1, H1⟩, ⟨%d2, %h2, H2⟩⟩
  iapply HK
  isplitl [H0]; · iexact H0
  isplitl [H1]
  · iexists d1
    isplitr
    · ipureintro; exact hS d1 h1
    · iexact H1
  · iexists d2
    isplitr
    · ipureintro; exact hC d2 h2
    · iexact H2

/-- The body at any point: the block stays, the two results take one step. -/
theorem run_step (c : Dev nD) (t : Fin cfg0.N) (x1 : Vec Ideal S2048x2048 .f32) (x2 : Vec Ideal S1x2048 .f32) :
    Runs c (grid0.coords t) (win0_0.stage (cfg0.slots t 0)) (hstage0_0 ((cfg0.slots t 0).cast nbuf0_0)) (win0_1.stage (cfg0.slots t 1))
      (hstage0_1 ((cfg0.slots t 1).cast nbuf0_1)) (win0_2.stage (cfg0.slots t 2)) (hstage0_2 ((cfg0.slots t 2).cast nbuf0_2))
      (blockAt m c t) x1 x2 (GramStep t (blockAt m c t) x1) (ColumnStep t (blockAt m c t) x2) := by
  by_cases h0 : t.val = 0
  · have h7 : ¬t.val = 7 := by omega
    refine Runs.weaken ?_ ?_ (run_first c _ _ _ _ _ _ _ _ x1 x2 ((isFirst_iff t).mpr h0) fun h => h7 ((isLast_iff t).mp h))
    · exact fun d h => ⟨by simpa only [if_pos h0] using h, fun h => absurd h h7⟩
    · exact fun d h => by simpa only [ColumnStep, if_pos h0] using h
  · by_cases h7 : t.val = 7
    · refine Runs.weaken ?_ ?_ (run_last c _ _ _ _ _ _ _ _ x1 x2 (fun h => h0 ((isFirst_iff t).mp h)) ((isLast_iff t).mpr h7))
      · exact fun d h => ⟨by simp only [if_neg h0]; exact fun P Q _ => h P Q, fun _ => h⟩
      · exact fun d h => by simpa only [ColumnStep, if_neg h0] using h
    · refine Runs.weaken ?_ ?_ (run_middle c _ _ _ _ _ _ _ _ x1 x2 (fun h => h0 ((isFirst_iff t).mp h)) fun h => h7 ((isLast_iff t).mp h))
      · exact fun d h => ⟨by simpa only [if_neg h0] using h, fun h => absurd h h7⟩
      · exact fun d h => by simpa only [ColumnStep, if_neg h0] using h

set_option maxHeartbeats 800000 in
/-- The body keeps to the data at every point. -/
theorem body_obligation (c : Dev nD) : (data m c).BodyObligation (defs₀ (F := Ideal)) Variants.none () Set.univ := by
  intro t Y hY
  have h0 := finds_block m (hY 0)
  rw [bigSep_W0, bigSep_W0, body_row]
  rw [show (data m c).Φ t.succ = (data m c).Φ t.castSucc from rfl,
    show (data m c).owesAt () t.succ = (data m c).owesAt () t.castSucc from rfl, h0]
  iintro ⟨HΦ, Ho, H0, H1, H2⟩
  iapply (run_step m c t (Y 1) (Y 2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (blockAt m c t)
    isplitr
    · ipureintro; rfl
    · iexact H0
  isplitl [H1]; · iexact H1
  iexact H2

/-- The program's run with the data. -/
theorem run : θ_run defs (onTc (τ := τ) (main (F := Ideal))) (s₀ m ρ) (fun r => (∀ c, EndsAt m (data m c) r.2) ∧ r.2.sem = fun _ => 0) :=
  launch m ρ (data m) (body_obligation m) (fun c => (data m c).share_full fun _ => rfl) (fun _ _ => rfl) (fun _ _ => rfl) (fun _ _ => rfl)

end Cert.KernelIdeal.Gram

end
-- ==== Proof.Sums.lean ====
/- The two results as sums over all rows of the argument, and the blocks' sums added up.

   The argument's 8192 rows come in eight blocks of 1024; a sum over the rows is the sum over the blocks of the sums over
   each block's rows. -/
module

public import proofs.«01_k».proof.Proof.Stores

@[expose] public section

noncomputable section

namespace Cert.KernelIdeal.Gram

open Idealize.ShloMosaic
open Cert.KernelIdeal

variable (X : Vec Ideal S8192x2048 .f32)

/-- The argument's row sum. -/
def rowSum (R : Fin 8192) : EReal := ∑ k : Fin 2048, (show EReal from X (ix2 R k))

/-- An entry of the argument times the square root of its row's weight. -/
def scaledEntry (R : Fin 8192) (p : Fin 2048) : EReal := Ideal.sqrt (weight (rowSum X R)) * X (ix2 R p)

/-- An entry of the first result. -/
def gramEntry (P Q : Fin 2048) : EReal := ∑ R : Fin 8192, scaledEntry X R P * scaledEntry X R Q

/-- An entry of the second result. -/
def columnSum (q : Fin 2048) : EReal := ∑ R : Fin 8192, (show EReal from X (ix2 R q))

/-- Row `r` of block `s`. -/
def rowOf (s : ℕ) (r : Fin 1024) : Fin 8192 := ⟨(s * 1024 + r.val) % 8192, Nat.mod_lt _ (by decide)⟩

/-- Block `s` of the argument. -/
def rowBlock (s : ℕ) : Vec Ideal S1024x2048 .f32 := fun j => X (ix2 (rowOf s (j 0)) (j 1))

theorem rowBlock_apply (s : ℕ) (r : Fin 1024) (k : Fin 2048) : rowBlock X s (ix2 r k) = X (ix2 (rowOf s r) k) := rfl

/-- The first `n` blocks' share of an entry of the first result. -/
def gramOf (n : ℕ) (P Q : Fin 2048) : EReal := ∑ s ∈ Finset.range n, product (scaled (rowBlock X s)) P Q

/-- The first `n` blocks' share of a column sum. -/
def columnOf (n : ℕ) (q : Fin 2048) : EReal := ∑ s ∈ Finset.range n, ∑ r : Fin 1024, (show EReal from rowBlock X s (ix2 r q))

theorem product_symm (y : FVec Ideal S1024x2048 .bf16) (P Q : Fin 2048) : product y P Q = product y Q P :=
  Finset.sum_congr rfl fun _ _ => mul_comm _ _

theorem gramOf_symm (n : ℕ) (P Q : Fin 2048) : gramOf X n P Q = gramOf X n Q P :=
  Finset.sum_congr rfl fun _ _ => product_symm _ P Q

/-- A sum over the rows, block by block. -/
theorem sum_blocks (f : Fin 8192 → EReal) : ∑ s ∈ Finset.range 8, ∑ r : Fin 1024, f (rowOf s r) = ∑ R : Fin 8192, f R := by
  rw [Finset.sum_range, ← Fintype.sum_prod_type' (f := fun (s : Fin 8) (r : Fin 1024) => f (rowOf s.val r))]
  refine Fintype.sum_equiv (finProdFinEquiv (m := 8) (n := 1024)) _ _ fun x => congrArg f (Fin.ext ?_)
  have h1 := x.1.isLt
  have h2 := x.2.isLt
  simp only [rowOf, finProdFinEquiv_apply_val]
  omega

theorem gramOf_all (P Q : Fin 2048) : gramOf X 8 P Q = gramEntry X P Q := by
  rw [gramEntry, ← sum_blocks]
  refine Finset.sum_congr rfl fun s _ => Finset.sum_congr rfl fun r _ => ?_
  rw [scaled_apply, scaled_apply]
  rfl

theorem columnOf_all (q : Fin 2048) : columnOf X 8 q = columnSum X q := by
  rw [columnSum, ← sum_blocks]
  rfl

end Cert.KernelIdeal.Gram

end
-- ==== Proof.Values.lean ====
/- What the kernel's results hold at the end.

   By induction over the grid points: after point `t` the upper tiles hold the sum of the first `t + 1` blocks' products and
   the column sums those blocks' column sums. After the last point that is the sum over all rows, in every tile. -/
module

public import proofs.«01_k».proof.Proof.Data
public import proofs.«01_k».proof.Proof.Sums
public import Idealize.ShloMosaic.Lib.Pipeline.ArrRel
public import Idealize.ShloMosaic.Lib.Pipeline.ValueKit

@[expose] public section

noncomputable section

namespace Cert.KernelIdeal.Gram

open Idealize.ShloMosaic Idealize.ShloMosaic.TcCoe Idealize.ShloMosaic.Tactic
open Idealize.SL Idealize.SL.Sem
open Idealize.ShloMosaic.Pipeline
open Cert.KernelIdeal Cert.KernelIdeal.Gen

variable (m : (ℓ : Loc nD τ sig) → Buf (Elt Ideal) ℓ) (ρ : Dev nD → PrngReg)

/-- The argument on one core. -/
abbrev arg (c : Dev nD) : Vec Ideal S8192x2048 .f32 := m ((c.tc : Thread nD τ).loc main_arg0)

theorem index0 : ∀ t : Fin cfg0.N, win0_0.index t = ![t.val, 0] := by decide

/-- The fetched block of point `t` is the argument's block `t`. -/
theorem block_eq (c : Dev nD) (t : Fin cfg0.N) : blockAt m c t = rowBlock (arg m c) t.val := by
  have ht : t.val < 8 := Nat.lt_of_lt_of_eq t.isLt N_0
  funext j
  unfold rowBlock rowOf
  blk_ext [blockAt, iblk, V, index0 t]

/-- After point `t` the result array holds the first `t + 1` blocks' sums. -/
theorem leaves_gram (c : Dev nD) : ∀ (n : ℕ) (t : Fin cfg0.N) (X : Vec Ideal S2048x2048 .f32), t.val = n → (data m c).Leaves 1 t X →
    (∀ P Q : Fin 2048, P.val / 256 ≤ Q.val / 256 → X (ix2 P Q) = gramOf (arg m c) (n + 1) P Q)
      ∧ (n = 7 → ∀ P Q : Fin 2048, X (ix2 P Q) = gramOf (arg m c) (n + 1) P Q) := by
  intro n
  induction n with
  | zero =>
    rintro t X ht ⟨Y, -, hX, -⟩
    refine ⟨fun P Q h => ?_, fun h => absurd h (by decide)⟩
    rw [hX P Q h, gram_upper _ _ h, block_eq, if_pos ht, ht, gramOf, Finset.sum_range_one, zero_add]
  | succ n ih =>
    rintro t X ht ⟨Y, hY, hX, hX'⟩
    have hN : t.val < 8 := Nat.lt_of_lt_of_eq t.isLt N_0
    have h0 : ¬t.val = 0 := by omega
    have hY' : (data m c).Leaves 1 ⟨t.val - 1, Nat.lt_of_le_of_lt (Nat.sub_le _ _) t.isLt⟩ Y := by
      refine (((data m c).finds_of_pos (w := 1) rfl h0 Y).mp hY).resolve_left fun h => ?_
      have := (flush0_1 _).mp h
      simp only at this
      omega
    have hprev := (ih _ Y (by simp only; omega) hY').1
    have hup : ∀ P Q : Fin 2048, P.val / 256 ≤ Q.val / 256 →
        gram (fun P Q => Y (ix2 P Q)) (scaled (blockAt m c t)) P Q = gramOf (arg m c) (n + 1 + 1) P Q := fun P Q h => by
      rw [gram_upper _ _ h, hprev P Q h, block_eq, ht, gramOf, gramOf, Finset.sum_range_succ _ (n + 1)]
    simp only [if_neg h0] at hX
    refine ⟨fun P Q h => (hX P Q h).trans (hup P Q h), fun h7 P Q => ?_⟩
    rw [hX' (ht.trans h7) P Q]
    by_cases h : P.val / 256 ≤ Q.val / 256
    · exact hup P Q h
    · rw [gram_mirror _ _ (not_le.mp h), hup Q P (le_of_lt (not_le.mp h)), gramOf_symm]

/-- After point `t` the column sums are the first `t + 1` blocks'. -/
theorem leaves_columns (c : Dev nD) : ∀ (n : ℕ) (t : Fin cfg0.N) (X : Vec Ideal S1x2048 .f32), t.val = n → (data m c).Leaves 2 t X →
    ∀ q : Fin 2048, X (ix2 0 q) = columnOf (arg m c) (n + 1) q := by
  intro n
  induction n with
  | zero =>
    rintro t X ht ⟨Y, -, hX⟩ q
    refine (hX q).trans ?_
    beta_reduce
    rw [block_eq, if_pos ht, ht, columnOf, Finset.sum_range_one, zero_add]
  | succ n ih =>
    rintro t X ht ⟨Y, hY, hX⟩ q
    have hN : t.val < 8 := Nat.lt_of_lt_of_eq t.isLt N_0
    have h0 : ¬t.val = 0 := by omega
    have hY' : (data m c).Leaves 2 ⟨t.val - 1, Nat.lt_of_le_of_lt (Nat.sub_le _ _) t.isLt⟩ Y := by
      refine (((data m c).finds_of_pos (w := 2) rfl h0 Y).mp hY).resolve_left fun h => ?_
      have := (flush0_2 _).mp h
      simp only at this
      omega
    refine (hX q).trans ?_
    beta_reduce
    rw [if_neg h0, ih _ Y (by simp only; omega) hY' q, block_eq, ht, columnOf, columnOf, Finset.sum_range_succ _ (n + 1)]

/-- The first result. -/
def gramArray (X : Vec Ideal S8192x2048 .f32) : Vec Ideal S2048x2048 .f32 := fun j => gramEntry X (j 0) (j 1)

/-- The second result. -/
def columnArray (X : Vec Ideal S8192x2048 .f32) : Vec Ideal S2048 .f32 := fun j => columnSum X (j 0)

/-- What the first result's array may hold at the end. -/
theorem gram_final (c : Dev nD) (G : Buf (Elt Ideal) ((c.tc : Thread nD τ).loc main_v0_0)) (h : (data m c).ArrAt 1 cfg0.N G) :
    G = gramArray (arg m c) := by
  obtain ⟨X, hX, hG⟩ := h.emb_eq_of_wholeAt (t₀ := t0_7) (by decide +kernel)
  have hall := (leaves_gram m c 7 t0_7 X rfl hX).2 rfl
  funext j
  refine (hG j).trans (Eq.trans (b := X (ix2 (j 0) (j 1))) ?_ ((hall (j 0) (j 1)).trans (gramOf_all (arg m c) (j 0) (j 1))))
  exact congrArg X (funext (Fin.forall_fin_two.mpr ⟨rfl, rfl⟩))

/-- What the column sums' array may hold at the end. -/
theorem columns_final (c : Dev nD) (G : Buf (Elt Ideal) ((c.tc : Thread nD τ).loc main_v0_1)) (h : (data m c).ArrAt 2 cfg0.N G) (q : Fin 2048) :
    (show Vec Ideal S1x2048 .f32 from G) (ix2 0 q) = columnSum (arg m c) q := by
  obtain ⟨X, hX, hG⟩ := h.emb_eq_of_wholeAt (t₀ := t0_7) (by decide +kernel)
  have hall := leaves_columns m c 7 t0_7 X rfl hX
  refine (hG (ix2 0 q)).trans (Eq.trans (b := X (ix2 0 q)) ?_ ((hall q).trans (columnOf_all (arg m c) q)))
  exact congrArg X (funext (Fin.forall_fin_two.mpr ⟨rfl, rfl⟩))

theorem dropRow (v : Vec Ideal S1x2048 .f32) (q : Fin 2048) : shapeCast S2048 v shapeCasts_S1x2048_S2048 (ix1 q) = v (ix2 0 q) := by
  pointwise

/-- The host's reshape of the column sums. -/
theorem tail_final (c : Dev nD) (A : Arrays c) (h : ∀ w, (data m c).ArrAt w cfg0.N (A w)) : atEnd m c A main_v1 = columnArray (arg m c) := by
  have hA : withArrays spec0 c (V0 m c) A (Proc.devRef .tc main_v0_1) = A 2 := withArrays_arr spec0 launch0.win.arr_inj c (V0 m c) A 2
  have e : atEnd m c A main_v1 = shapeCast S2048 (show Vec Ideal S1x2048 .f32 from A 2) shapeCasts_S1x2048_S2048 := by
    unfold atEnd
    rw [← hA]
    rfl
  rw [e]
  funext j
  obtain ⟨q, rfl⟩ : ∃ q : Fin 2048, j = ix1 q := ⟨j 0, funext (Fin.forall_fin_one.mpr rfl)⟩
  exact (dropRow _ q).trans (columns_final m c (A 2) (h 2) q)

/-- The kernel program's run: both results, the argument unchanged, every semaphore at zero. -/
theorem values : θ_run defs (onTc (τ := τ) (main (F := Ideal))) ⟨m, fun _ => 0, ρ⟩ (fun r => (∀ c : Dev nD,
      r.2.mem ((c.tc : Thread nD τ).loc main_v0_0) = gramArray (arg m c)
      ∧ r.2.mem ((c.tc : Thread nD τ).loc main_v1) = columnArray (arg m c)
      ∧ r.2.mem ((c.tc : Thread nD τ).loc main_arg0) = m ((c.tc : Thread nD τ).loc main_arg0))
      ∧ r.2.sem = fun _ => 0) := by
  refine (θ_run defs _ _).mono (fun r h => ⟨fun c => ?_, h.2⟩) (run m ρ)
  obtain ⟨hw, A, hA, hv⟩ := h.1 c
  refine ⟨gram_final m c _ (hw 1), hv.trans (tail_final m c A hA), ?_⟩
  have h0 := hw 0
  rw [(data m c).ArrAt_in 0 rfl] at h0
  exact h0

end Cert.KernelIdeal.Gram

end
-- ==== Proof.Weights.lean ====
/- The square root of a row's weight, squared, is the weight.

   The kernel scales each row by the square root of its weight and multiplies two scaled entries; the reference multiplies
   one entry by the weight. These agree when the row sum is not -∞: the weight's base is then a real number or +∞, and the
   weight a nonnegative number. With -∞ among a row's entries both the weight and its root are -∞, and the root's square
   is +∞; so the claim's precondition excludes it. -/
module

public import proofs.«01_k».proof.Proof.Sums

@[expose] public section

noncomputable section

namespace Cert.KernelIdeal.Gram

open Idealize.ShloMosaic
open Cert.KernelIdeal

/-- The exponent as a real number. -/
theorem expo_eq : expo = ((-(10066330 / 33554432) : ℝ) : EReal) := by
  unfold expo
  simp [Ideal.ofBits, Ideal.ieee, -EReal.coe_mul, -EReal.coe_neg]
  norm_num

/-- The number added to a row sum is a real one. -/
theorem eps_ne_bot : eps ≠ ⊥ := by
  have e : eps = ((9223372 * 2 ^ (-63 : ℤ) : ℝ) : EReal) := by
    unfold eps
    simp [Ideal.ofBits, Ideal.ieee, -EReal.coe_mul]
  rw [e]
  exact EReal.coe_ne_bot _

/-- A real base to the exponent is no negative number: the exponent is below one half in size, so that a negative base's
    power, which has the cosine of a multiple of π below one half for a factor, is positive. -/
theorem rpow_nonneg (x : ℝ) : 0 ≤ Real.rpow x (-(10066330 / 33554432)) := by
  rcases le_or_gt 0 x with h | h
  · exact Real.rpow_nonneg h _
  · rw [Real.rpow_eq_pow, Real.rpow_def_of_neg h]
    refine mul_nonneg (Real.exp_nonneg _) (Real.cos_nonneg_of_neg_pi_div_two_le_of_le ?_ ?_)
    all_goals nlinarith [Real.pi_pos]

/-- The root of a nonnegative real, squared. -/
theorem sqrt_sq {r : ℝ} (h : 0 ≤ r) : Ideal.sqrt (r : EReal) * Ideal.sqrt (r : EReal) = (r : EReal) := by
  have e : Ideal.sqrt (r : EReal) = (Real.sqrt r : EReal) := if_neg (not_lt.mpr h)
  rw [e, ← EReal.coe_mul, Real.mul_self_sqrt h]

/-- The root of a weight, squared, is the weight, but of a row sum of -∞. -/
theorem weight_root {n : EReal} (h : n ≠ ⊥) : Ideal.sqrt (weight n) * Ideal.sqrt (weight n) = weight n := by
  have hb : n + eps ≠ ⊥ := by rw [ne_eq, EReal.add_eq_bot_iff]; exact not_or.mpr ⟨h, eps_ne_bot⟩
  rw [weight, expo_eq]
  generalize n + eps = b at hb
  induction b using EReal.rec with
  | bot => exact absurd rfl hb
  | top =>
    have e : Ideal.pow ⊤ ((-(10066330 / 33554432) : ℝ) : EReal) = ((0 : ℝ) : EReal) := by
      have h1 : ¬(0 : EReal) < ((-(10066330 / 33554432) : ℝ) : EReal) := by rw [← EReal.coe_zero, EReal.coe_lt_coe_iff]; norm_num
      have h2 : ¬((-(10066330 / 33554432) : ℝ) : EReal) = 0 := by rw [← EReal.coe_zero, EReal.coe_eq_coe_iff]; norm_num
      rw [Ideal.pow_top, if_neg h1, if_neg h2, EReal.coe_zero]
    rw [e]
    exact sqrt_sq le_rfl
  | coe x =>
    rw [Ideal.pow_coe_coe]
    exact sqrt_sq (rpow_nonneg x)

/-- A sum is -∞ only when a term is. -/
theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha, ne_eq, EReal.add_eq_bot_iff]
    exact not_or.mpr ⟨h a (Finset.mem_insert_self a s), ih fun i hi => h i (Finset.mem_insert_of_mem hi)⟩

/-- An entry of the first result as the reference computes it: an entry times its partner's weighted one. -/
theorem gramEntry_weighted (X : Vec Ideal S8192x2048 .f32) (hX : ∀ R k, (show EReal from X (ix2 R k)) ≠ ⊥) (P Q : Fin 2048) :
    gramEntry X P Q = ∑ R : Fin 8192, (show EReal from X (ix2 R P)) * (weight (rowSum X R) * X (ix2 R Q)) := by
  refine Finset.sum_congr rfl fun R _ => ?_
  have hw := weight_root (sum_ne_bot Finset.univ (fun k : Fin 2048 => (show EReal from X (ix2 R k))) fun k _ => hX R k)
  have key : ∀ s w a b : EReal, s * s = w → s * a * (s * b) = a * (w * b) := fun s w a b h => by
    rw [← h]; simp only [mul_assoc, mul_comm, mul_left_comm]
  exact key _ _ _ _ hw

end Cert.KernelIdeal.Gram

end
-- ==== Proof.Reference.lean ====
/- What the reference computes, entry by entry: the weighted Gram matrix and the column sums, as sums over the rows. -/
module

public import proofs.«01_k».proof.Proof.Sums
public import proofs.«01_k».proof.Proof.Gen.ReferenceIdeal.Run
public import Idealize.ShloMosaic.Lib.Pointwise

@[expose] public section

noncomputable section

namespace Cert.ReferenceIdeal.Gram

open Idealize.ShloMosaic Idealize.ShloMosaic.Tactic Idealize.ShloMosaic.TcCoe Idealize.SL.Sem
open Cert.ReferenceIdeal Cert.ReferenceIdeal.Gen
open Cert.KernelIdeal.Gram (weight eps expo rowSum columnSum)

variable (X : FVec Ideal S8192x2048 .f32)

/-- The rows' weights. -/
def weights : FVec Ideal S8192 .f32 :=
  Host.powf (addf (Host.reduceAdd X (constant S_ .f32 0x00000000#32) reducesTo_S8192x2048_S8192_d1 h_S_)
    (broadcastInDim S8192 ![] bcast_S_S8192 (constant S_ .f32 0x2B8CBCCC#32))) (broadcastInDim S8192 ![] bcast_S_S8192 (constant S_ .f32 0xBE99999A#32))

/-- The reference's first result. -/
def gram : FVec Ideal S2048x2048 .f32 :=
  Host.dotGeneral dot_S2048x8192_S8192x2048_S2048x2048_1_0_0_1_n_n none (transpose S2048x8192 [1, 0] X transposes_S8192x2048_S2048x8192_1_0)
    (mulf (broadcastInDim S8192x2048 ![0, 1] bcast_S8192x1_S8192x2048_0_1 (broadcastInDim S8192x1 ![0] bcast_S8192_S8192x1_0 (weights X))) X)

/-- The reference's second result. -/
def columns : FVec Ideal S2048 .f32 := Host.reduceAdd X (constant S_ .f32 0x00000000#32) reducesTo_S8192x2048_S2048_d0 h_S_

theorem weights_apply (R : Fin 8192) : weights X (ix1 R) = weight (rowSum X R) := by
  pointwise [weights, weight, rowSum, eps, expo]

theorem gram_apply (P Q : Fin 2048) :
    gram X (ix2 P Q) = ∑ R : Fin 8192, (show EReal from X (ix2 R P)) * (weight (rowSum X R) * X (ix2 R Q)) := by
  simp only [← weights_apply]
  pointwise [gram]

theorem columns_apply (q : Fin 2048) : columns X (ix1 q) = columnSum X q := by
  pointwise [columns, columnSum]

/-- The reference's run. -/
theorem values (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v10) = gram (m ((c.tc : Thread nD τ).loc main_arg0))
      ∧ r.2.mem ((c.tc : Thread nD τ).loc main_v5) = columns (m ((c.tc : Thread nD τ).loc main_arg0))
      ∧ r.2.mem ((c.tc : Thread nD τ).loc main_arg0) = m ((c.tc : Thread nD τ).loc main_arg0))
      ∧ r.2.sem = fun _ => 0 :=
  (θ_run defs _ _).mono (fun r h => ⟨h, sem_eq_zero_of_no_sems (by decide) r.2⟩) (Value.run m ρ)

end Cert.ReferenceIdeal.Gram

end
-- ==== Proof.Equation.lean ====
/- The kernel's results are the reference's, for an argument with no entry of -∞. -/
module

public import proofs.«01_k».proof.Proof.Values
public import proofs.«01_k».proof.Proof.Weights
public import proofs.«01_k».proof.Proof.Reference
public import proofs.«01_k».proof.Proof.Gen.Pre_no_neg_inf

@[expose] public section

noncomputable section

namespace Cert.KernelIdeal.Gram

open Idealize.ShloMosaic Idealize.ShloMosaic.Tactic
open Cert.KernelIdeal

/-- The precondition, entry by entry. -/
theorem entry_ne_bot (X : Vec Ideal S8192x2048 .f32) (h : Cert.Pre_no_neg_inf.fn (F := Ideal) X = fun _ => 1#1) (R : Fin 8192) (k : Fin 2048) :
    (show EReal from X (ix2 R k)) ≠ ⊥ := by
  have e : Cert.Pre_no_neg_inf.fn (F := Ideal) X (ix2 R k) = Ideal.cmp .ogt (X (ix2 R k)) (Ideal.ofBits .f32 0xFF800000#32) := by
    pointwise [Cert.Pre_no_neg_inf.fn]
  have hb : Ideal.ofBits .f32 0xFF800000#32 = ⊥ := by simp [Ideal.ofBits, Ideal.ieee]
  intro hx
  have e' := e.symm.trans (congrFun h (ix2 R k))
  rw [hb, show X (ix2 R k) = (⊥ : EReal) from hx] at e'
  simp [Ideal.cmp] at e'

/-- The first results are equal. -/
theorem gram_eq (X : Vec Ideal S8192x2048 .f32) (h : Cert.Pre_no_neg_inf.fn (F := Ideal) X = fun _ => 1#1) :
    Cert.ReferenceIdeal.Gram.gram X = gramArray X := by
  funext j
  obtain ⟨P, Q, rfl⟩ : ∃ P Q : Fin 2048, j = ix2 P Q := ⟨j 0, j 1, funext (Fin.forall_fin_two.mpr ⟨rfl, rfl⟩)⟩
  exact (Cert.ReferenceIdeal.Gram.gram_apply X P Q).trans (gramEntry_weighted X (entry_ne_bot X h) P Q).symm

/-- The second results are equal. -/
theorem columns_eq (X : Vec Ideal S8192x2048 .f32) : Cert.ReferenceIdeal.Gram.columns X = columnArray X := by
  funext j
  obtain ⟨q, rfl⟩ : ∃ q : Fin 2048, j = ix1 q := ⟨j 0, funext (Fin.forall_fin_one.mpr rfl)⟩
  exact Cert.ReferenceIdeal.Gram.columns_apply X q

end Cert.KernelIdeal.Gram

end
-- ==== Proof.Words.lean ====
/- The kernel at the machine's words runs, keeps its argument and leaves every semaphore counter at zero.

   Nothing is said here of what the results hold: the relational proof data allow anything in the two results' buffers.
   What the results hold is said over the extended reals, in `Values`. -/
module

public import proofs.«01_k».proof.Proof.Gen.Kernel.Frame
public import proofs.«01_k».proof.Proof.Gen.Kernel.Skeleton
public import Idealize.ShloMosaic.PureOps.BitExact
public import Idealize.ShloMosaic.Lib.VecWindow

@[expose] public section

set_option maxRecDepth 16384

noncomputable section

namespace Cert.Kernel.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel Cert.Kernel.Gen

local notation "𝕄" => MT nD τ sig Unit (Elt Bits) ℕ (UR sig nD τ) ℕ

variable (m : (ℓ : Loc nD τ sig) → Buf (Elt Bits) ℓ) (ρ : Dev nD → PrngReg)

/-- The body's first branch is taken. -/
abbrev isFirst (i : grid0.Coords) : Prop :=
  Scalar.cmpi .ne (Scalar.extui (Scalar.cmpi .eq (BitVec.ofNat 32 (i 0).val) 0#32)) 0#32 = 1#1

/-- The body's second branch is taken. -/
abbrev isLast (i : grid0.Coords) : Prop :=
  Scalar.cmpi .ne (Scalar.extui (Scalar.cmpi .eq (BitVec.ofNat 32 (i 0).val) 7#32)) 0#32 = 1#1

set_option maxHeartbeats 8000000 in
/-- The body, whichever branches it takes: it reads its block and leaves something in the two results. -/
theorem run_any (c : Dev nD) (i : grid0.Coords)
    (arg1 : Memref sig .tc .vmem S1024x2048 .f32) (harg1 : arg1.IsWhole) (arg2 : Memref sig .tc .vmem S2048x2048 .f32)
    (harg2 : arg2.IsWhole) (arg3 : Memref sig .tc .vmem S1x2048 .f32) (harg3 : arg3.IsWhole)
    (x0 : Vec Bits S1024x2048 .f32) (x1 : Vec Bits S2048x2048 .f32) (x2 : Vec Bits S1x2048 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (iprop(owns (c : Thread nD τ) arg1 fullShare x0 ∗ (∃ d, owns (c : Thread nD τ) arg2 fullShare d)
            ∗ (∃ d, owns (c : Thread nD τ) arg3 fullShare d)) -∗ K ⟨⟩))
      ⊢ wp frame (wpE (defs₀ (F := Bits)) Variants.none c none) E (cc0__fused_body i arg1 harg1 arg2 harg2 arg3 harg3) K := by
  simp only [cc0__fused_body_eq_skeleton]; unfold cc0__fused_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  by_cases hc0 : isFirst i <;> by_cases hc1 : isLast i
  all_goals
    iintro ⟨⟨%f0, %hf0, H0⟩, ⟨%f1, %hf1, H1⟩, ⟨%f2, %hf2, H2⟩, Hk⟩
    sl_exec (disch := first | sl_exact hc0 | sl_exact hc1)
    sl_step
    iapply Hk
    isplitl [H0]
    · iexists _; isplitr; · ipureintro; exact hf0
      iexact H0
    isplitl [H1]
    · iexists _; iexists _; isplitr; swap; · iexact H1
      ipureintro; rfl
    · iexists _; iexists _; isplitr; swap; · iexact H2
      ipureintro; rfl

/-- Relational proof data of the region that allow anything in the results' buffers. -/
def data (c : Dev nD) : RDat τ (Elt Bits) Unit ℕ (UR sig nD τ) ℕ cfg0 c where
  A w := V m c (arrRef spec0 w)
  after w _ := match w with
    | 0 => fun Y X => X = Y
    | 1 => fun _ _ => True
    | 2 => fun _ _ => True
    | ⟨_ + 3, h⟩ => absurd h (Nat.not_lt.2 (Nat.le_add_left _ _))
  Φ _ := ΦA spec0 c
  q _ := fullShare
  owed _ := 0

/-- The body table's row is the body at the point's buffers. -/
theorem body_row (t : Fin cfg0.N) : defs₀ (F := Bits) .tc cfg0.body (cfg0.bodyArgs t (cfg0.slots t)) = bodyAt0 t := by
  unfold defs₀
  rw [Defs.onTc_tc]

set_option maxHeartbeats 800000 in
/-- The body keeps to the data at every point. -/
theorem body_obligation (c : Dev nD) : (data m c).BodyObligation (defs₀ (F := Bits)) Variants.none () Set.univ := by
  intro t Y _
  rw [bigSep_W0, bigSep_W0, body_row]
  rw [show (data m c).Φ t.succ = (data m c).Φ t.castSucc from rfl,
    show (data m c).owesAt () t.succ = (data m c).owesAt () t.castSucc from rfl]
  iintro ⟨HΦ, Ho, H0, H1, H2⟩
  iapply (run_any c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (Y 0) (Y 1) (Y 2) Set.univ _)
  isplitl [H0]; · iexact H0
  isplitl [H1]; · iexact H1
  isplitl [H2]; · iexact H2
  iintro ⟨H0, ⟨%d1, H1⟩, ⟨%d2, H2⟩⟩
  isplitl [HΦ]; · iexact HΦ
  isplitl [Ho]; · iexact Ho
  isplitl [H0]
  · iexists (Y 0)
    isplitr
    · ipureintro; rfl
    · iexact H0
  isplitl [H1]
  · iexists d1
    isplitr
    · ipureintro; trivial
    · iexact H1
  · iexists d2
    isplitr
    · ipureintro; trivial
    · iexact H2

/-- The host line after the region writes the reshaped column sums only. -/
theorem tail_writes : ∀ ops ∈ ([hostOps1] : List (List (HloOp τ sig (Elt Bits)))), ∀ op ∈ ops, ∀ b : Ref sig .tc,
    Proc.devRef .tc b ∈ op.writes → b ∈ ({main_v1} : Finset (Ref sig .tc)) := by
  intro ops hops op hop b hb
  obtain rfl := List.mem_singleton.mp hops
  obtain rfl := List.mem_singleton.mp hop
  have e : Proc.devRef (τ := τ) .tc b = Proc.devRef .tc main_v1 := by simpa [StableHlo.reshape] using hb
  exact Finset.mem_singleton.mpr (Proc.devRef_injective _ e)

/-- The program's run: the argument unchanged and every semaphore at zero. -/
theorem frame_run : θ_run defs (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0) :=
  RDat.θ_run_frame_around_T cfgs 0 launch0 defs₀ Variants.none (data m) {main_v1} m ρ main (body_obligation m)
    (fun c => (data m c).share_full fun _ => rfl) (fun _ _ => rfl) (V0 m) [hostOps1] sfx_sub sfx_fresh sfx_keeps tail_writes
    (hmain m Variants.none) (fun _ _ => rfl) (fun _ _ => rfl) (Q' := _)
    (fun _ h => ⟨fun c => (h.1.arr_in c 0 rfl).trans (V_main_arg0 m c), h.2⟩)

end Cert.Kernel.Words

end
-- ==== Proof.lean ====
/- The certificate of the weighted item-item Gram matrix and the column sums: every program runs to
   its end and leaves its argument and the semaphores as they should be, and over the extended reals
   the kernel and the reference leave the same two results.

   The modules, in the order of the argument:
   * `Words`     the kernel at the machine's words runs and keeps its argument;
   * `Block`     what one grid step computes from its block of rows;
   * `Stores`    what the step's stores leave in the accumulated arrays;
   * `Run`       one step of the body, run;
   * `Launch`    a launch with relational contents, and the code after it;
   * `Data`      the contents before and after every step, and the body's obligation;
   * `Sums`      sums over blocks of rows against sums over all rows;
   * `Values`    what the kernel's whole program leaves;
   * `Weights`   the root of a weight, multiplied in twice, is the weight;
   * `Reference` what the reference's program leaves;
   * `Equation`  the two are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_neg_inf
public import proofs.«01_k».proof.Proof.Equation
public import proofs.«01_k».proof.Proof.Words
public import Idealize.ShloMosaic.Adequacy
public import Idealize.ShloMosaic.Init

@[expose] public section

noncomputable section

namespace Cert.Proof

open Idealize.ShloMosaic Idealize.SL.Sem
open Cert.KernelIdeal.Gram

/-- The kernel at the machine's words runs, keeps its argument and leaves every counter at zero. -/
theorem kernel_frame : Cert.quiescent_Kernel := fun m g _ => Cert.Kernel.Words.frame_run m g

/-- The kernel over the extended reals does the same, whatever its argument holds. -/
theorem ideal_frame : Cert.quiescent_KernelIdeal := fun m g _ =>
  (θ_run _ _ _).mono (fun _ h => ⟨fun c => (h.1 c).2.2, h.2⟩) (values m g)

/-- So it does under the precondition. -/
theorem ideal_frame_pre : Cert.quiescent_KernelIdeal_pre_no_neg_inf := fun m g _ =>
  (θ_run _ _ _).mono (fun _ h => ⟨fun c => (h.1 c).2.2, h.2⟩) (values m g)

/-- The reference runs, keeps its argument and leaves every counter at zero. -/
theorem reference_frame : Cert.quiescent_ReferenceIdeal := fun m g _ =>
  (θ_run _ _ _).mono (fun _ h => ⟨fun c => (h.1 c).2.2, h.2⟩) (Cert.ReferenceIdeal.Gram.values m g)

/-- So it does under the precondition. -/
theorem reference_frame_pre : Cert.quiescent_ReferenceIdeal_pre_no_neg_inf := fun m g _ =>
  (θ_run _ _ _).mono (fun _ h => ⟨fun c => (h.1 c).2.2, h.2⟩) (Cert.ReferenceIdeal.Gram.values m g)

/-- From equal arguments without an entry of -∞, both programs leave the same Gram matrix and the
    same column sums. -/
theorem same_results : Cert.algebraic_KernelIdeal_ReferenceIdeal_pre_no_neg_inf := by
  intro m g m' g' hpre hag
  refine ⟨fun c => gramArray (arg m c), fun c => columnArray (arg m c),
    (θ_run _ _ _).mono (fun _ h => h.1) (values m g),
    (θ_run _ _ _).mono (fun _ h c => ⟨?_, ?_, (h.1 c).2.2⟩) (Cert.ReferenceIdeal.Gram.values m' g')⟩
  · exact (h.1 c).1.trans
      ((congrArg Cert.ReferenceIdeal.Gram.gram (hag c)).trans (gram_eq _ (hpre c)))
  · exact (h.1 c).2.1.trans
      ((congrArg Cert.ReferenceIdeal.Gram.columns (hag c)).trans (columns_eq _))

/-- All the claims. -/
theorem claim : Cert.Claim :=
  ⟨Cert.Kernel.Gen.facts, Cert.KernelIdeal.Gen.facts, Cert.ReferenceIdeal.Gen.facts,
    Cert.Pre_no_neg_inf.Gen.facts,
    kernel_frame, ideal_frame, ideal_frame_pre, reference_frame, reference_frame_pre, trivial,
    same_results⟩

end Cert.Proof

end
